-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neutral_affine [hPre_neutral_affine : Cert.Pre_neutral_affine.Facts] (m : (ℓ : Loc Cert.KernelIdeal.nD Cert.KernelIdeal.τ Cert.KernelIdeal.sig) → Buf (Elt Ideal) ℓ) : Prop :=
  ∀ c : Dev Cert.KernelIdeal.nD,
    (Cert.Pre_neutral_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_neutral_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_neutral_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_neutral_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neutral_affine [hPre_neutral_affine : Cert.Pre_neutral_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neutral_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_neutral_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_neutral_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_neutral_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_neutral_affine [hKernelIdeal : Cert.KernelIdeal.Facts] [hPre_neutral_affine : Cert.Pre_neutral_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neutral_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_neutral_affine [hReferenceIdeal : Cert.ReferenceIdeal.Facts] [hPre_neutral_affine : Cert.Pre_neutral_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neutral_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_neutral_affine [hKernelIdeal : Cert.KernelIdeal.Facts] [hReferenceIdeal : Cert.ReferenceIdeal.Facts] [hPre_neutral_affine : Cert.Pre_neutral_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neutral_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_neutral_affine : Cert.Pre_neutral_affine.Facts),
    quiescent_Kernel (hKernel := hKernel)
    ∧ quiescent_KernelIdeal (hKernelIdeal := hKernelIdeal)
    ∧ quiescent_KernelIdeal_pre_neutral_affine (hKernelIdeal := hKernelIdeal) (hPre_neutral_affine := hPre_neutral_affine)
    ∧ quiescent_ReferenceIdeal (hReferenceIdeal := hReferenceIdeal)
    ∧ quiescent_ReferenceIdeal_pre_neutral_affine (hReferenceIdeal := hReferenceIdeal) (hPre_neutral_affine := hPre_neutral_affine)
    ∧ preserves_Kernel_KernelIdeal
    ∧ algebraic_KernelIdeal_ReferenceIdeal_pre_neutral_affine (hKernelIdeal := hKernelIdeal) (hReferenceIdeal := hReferenceIdeal) (hPre_neutral_affine := hPre_neutral_affine)
-- ==== Pre_neutral_affine.lean ====
abbrev S64x1000x128 : Shape := ⟨3, ![64, 1000, 128]⟩
abbrev S64x1000x1000 : Shape := ⟨3, ![64, 1000, 1000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S512 : S_.BroadcastsInDim S512 (![] : Fin 0 → Fin S512.rank)
  bcast_S_S128 : S_.BroadcastsInDim S128 (![] : Fin 0 → Fin S128.rank)

variable [Facts]

def fn {F : FTy → Type} [FloatOps F] (main_arg0 : FVec F S64x1000x128 .f32) (main_arg1 : IVec S64x1000x1000 1) (main_arg2 : FVec F S128x512 .f32) (main_arg3 : FVec F S512 .f32) (main_arg4 : FVec F S512x128 .f32) (main_arg5 : FVec F S128 .f32) (main_arg6 : FVec F S128 .f32) (main_arg7 : FVec F S128 .f32) : IVec S512 1 × IVec S128 1 × IVec S128 1 × IVec S128 1 :=
  let main_cst : FVec F S_ .f32 := constant S_ .f32 0x00000000#32
  let main_v0 : FVec F S512 .f32 := broadcastInDim S512 ![] bcast_S_S512 main_cst
  let main_v1 : IVec S512 1 := cmpf .oeq main_arg3 main_v0
  let main_cst_0 : FVec F S_ .f32 := constant S_ .f32 0x00000000#32
  let main_v2 : FVec F S128 .f32 := broadcastInDim S128 ![] bcast_S_S128 main_cst_0
  let main_v3 : IVec S128 1 := cmpf .oeq main_arg5 main_v2
  let main_cst_1 : FVec F S_ .f32 := constant S_ .f32 0x3F800000#32
  let main_v4 : FVec F S128 .f32 := broadcastInDim S128 ![] bcast_S_S128 main_cst_1
  let main_v5 : IVec S128 1 := cmpf .oeq main_arg6 main_v4
  let main_cst_2 : FVec F S_ .f32 := constant S_ .f32 0x00000000#32
  let main_v6 : FVec F S128 .f32 := broadcastInDim S128 ![] bcast_S_S128 main_cst_2
  let main_v7 : IVec S128 1 := cmpf .oeq main_arg7 main_v6
  (main_v1, main_v3, main_v5, main_v7)
-- ==== Kernel.lean ====
abbrev S64x1000x128 : Shape := ⟨3, ![64, 1000, 128]⟩
abbrev S64x1000x1000 : Shape := ⟨3, ![64, 1000, 1000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S8x1000x128 : Shape := ⟨3, ![8, 1000, 128]⟩
abbrev S8x1000x1000 : Shape := ⟨3, ![8, 1000, 1000]⟩
abbrev S1x1000x128 : Shape := ⟨3, ![1, 1000, 128]⟩
abbrev S1000x128 : Shape := ⟨2, ![1000, 128]⟩
abbrev S1x1000x1000 : Shape := ⟨3, ![1, 1000, 1000]⟩
abbrev S1000x1000 : Shape := ⟨2, ![1000, 1000]⟩
abbrev S1000x1 : Shape := ⟨2, ![1000, 1]⟩
abbrev S1000x129 : Shape := ⟨2, ![1000, 129]⟩
abbrev S1000x512 : Shape := ⟨2, ![1000, 512]⟩
abbrev S1000 : Shape := ⟨1, ![1000]⟩

abbrev nBuf : Space → Nat
  | .hbm => 13
  | .vmem => 8
  | .smem => 0
  | _ => 0

abbrev bufTy : (tb : Table) → Fin (tcTables nBuf tb) → BufTy
  | .hbm, ⟨0, _⟩ => ⟨S64x1000x128, .f32⟩
  | .hbm, ⟨1, _⟩ => ⟨S64x1000x1000, .i1⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S64x1000x1000, .i8⟩
  | .hbm, ⟨9, _⟩ => ⟨S64x1000x1000, .i8⟩
  | .hbm, ⟨10, _⟩ => ⟨S128x512, .bf16⟩
  | .hbm, ⟨11, _⟩ => ⟨S512x128, .bf16⟩
  | .hbm, ⟨12, _⟩ => ⟨S64x1000x128, .f32⟩
  | .local _ .vmem, ⟨0, _⟩ => ⟨S8x1000x128, .f32⟩
  | .local _ .vmem, ⟨1, _⟩ => ⟨S8x1000x128, .f32⟩
  | .local _ .vmem, ⟨2, _⟩ => ⟨S8x1000x1000, .i8⟩
  | .local _ .vmem, ⟨3, _⟩ => ⟨S8x1000x1000, .i8⟩
  | .local _ .vmem, ⟨4, _⟩ => ⟨S128x512, .bf16⟩
  | .local _ .vmem, ⟨5, _⟩ => ⟨S512x128, .bf16⟩
  | .local _ .vmem, ⟨6, _⟩ => ⟨S8x1000x128, .f32⟩
  | .local _ .vmem, ⟨7, _⟩ => ⟨S8x1000x128, .f32⟩
  | _, _ => ⟨S64x1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x1000 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x1000x128 : Shape := ⟨3, ![64, 1000, 128]⟩
abbrev S64x1000x1000 : Shape := ⟨3, ![64, 1000, 1000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩
abbrev S64x1000 : Shape := ⟨2, ![64, 1000]⟩
abbrev S64x1000x1 : Shape := ⟨3, ![64, 1000, 1]⟩
abbrev S64x1000x512 : Shape := ⟨3, ![64, 1000, 512]⟩
abbrev S1x1x512 : Shape := ⟨3, ![1, 1, 512]⟩
abbrev S1x1x128 : Shape := ⟨3, ![1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S64x1000x128, .f32⟩
  | .hbm, ⟨1, _⟩ => ⟨S64x1000x1000, .i1⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S64x1000x128, .f32⟩
  | .hbm, ⟨10, _⟩ => ⟨S64x1000x128, .f32⟩
  | .hbm, ⟨11, _⟩ => ⟨S64x1000x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x1000x128, .f32⟩
  | .hbm, ⟨16, _⟩ => ⟨S64x1000x128, .f32⟩
  | .hbm, ⟨17, _⟩ => ⟨S_, .f32⟩
  | .hbm, ⟨18, _⟩ => ⟨S64x1000x128, .f32⟩
  | .hbm, ⟨19, _⟩ => ⟨S64x1000x128, .f32⟩
  | .hbm, ⟨20, _⟩ => ⟨S_, .f32⟩
  | .hbm, ⟨21, _⟩ => ⟨S64x1000x128, .f32⟩
  | .hbm, ⟨22, _⟩ => ⟨S64x1000x128, .f32⟩
  | .hbm, ⟨23, _⟩ => ⟨S64x1000x1000, .f32⟩
  | .hbm, ⟨24, _⟩ => ⟨S_, .f32⟩
  | .hbm, ⟨25, _⟩ => ⟨S64x1000, .f32⟩
  | .hbm, ⟨26, _⟩ => ⟨S64x1000x1, .f32⟩
  | .hbm, ⟨27, _⟩ => ⟨S_, .f32⟩
  | .hbm, ⟨28, _⟩ => ⟨S_, .f32⟩
  | .hbm, ⟨29, _⟩ => ⟨S64x1000x1, .f32⟩
  | .hbm, ⟨30, _⟩ => ⟨S64x1000x1, .f32⟩
  | .hbm, ⟨31, _⟩ => ⟨S64x1000x128, .f32⟩
  | .hbm, ⟨32, _⟩ => ⟨S64x1000x128, .f32⟩
  | .hbm, ⟨33, _⟩ => ⟨S64x1000x128, .f32⟩
  | .hbm, ⟨34, _⟩ => ⟨S64x1000x512, .f32⟩
  | .hbm, ⟨35, _⟩ => ⟨S1x1x512, .f32⟩
  | .hbm, ⟨36, _⟩ => ⟨S64x1000x512, .f32⟩
  | .hbm, ⟨37, _⟩ => ⟨S64x1000x512, .f32⟩
  | .hbm, ⟨38, _⟩ => ⟨S_, .f32⟩
  | .hbm, ⟨39, _⟩ => ⟨S64x1000x512, .f32⟩
  | .hbm, ⟨40, _⟩ => ⟨S64x1000x512, .f32⟩
  | .hbm, ⟨41, _⟩ => ⟨S64x1000x128, .f32⟩
  | .hbm, ⟨42, _⟩ => ⟨S1x1x128, .f32⟩
  | .hbm, ⟨43, _⟩ => ⟨S64x1000x128, .f32⟩
  | .hbm, ⟨44, _⟩ => ⟨S64x1000x128, .f32⟩
  | .hbm, ⟨45, _⟩ => ⟨S64x1000x128, .f32⟩
  | .hbm, ⟨46, _⟩ => ⟨S_, .f32⟩
  | .hbm, ⟨47, _⟩ => ⟨S64x1000, .f32⟩
  | .hbm, ⟨48, _⟩ => ⟨S64x1000x1, .f32⟩
  | .hbm, ⟨49, _⟩ => ⟨S_, .f32⟩
  | .hbm, ⟨50, _⟩ => ⟨S64x1000x1, .f32⟩
  | .hbm, ⟨51, _⟩ => ⟨S64x1000x1, .f32⟩
  | .hbm, ⟨52, _⟩ => ⟨S_, .i32⟩
  | .hbm, ⟨53, _⟩ => ⟨S_, .f32⟩
  | .hbm, ⟨54, _⟩ => ⟨S64x1000, .f32⟩
  | .hbm, ⟨55, _⟩ => ⟨S64x1000x1, .f32⟩
  | .hbm, ⟨56, _⟩ => ⟨S_, .f32⟩
  | .hbm, ⟨57, _⟩ => ⟨S64x1000x1, .f32⟩
  | .hbm, ⟨58, _⟩ => ⟨S64x1000x1, .f32⟩
  | .hbm, ⟨59, _⟩ => ⟨S64x1000x128, .f32⟩
  | .hbm, ⟨60, _⟩ => ⟨S64x1000x128, .f32⟩
  | .hbm, ⟨61, _⟩ => ⟨S64x1000x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x1000, .f32⟩
  | .hbm, ⟨67, _⟩ => ⟨S64x1000x1, .f32⟩
  | .hbm, ⟨68, _⟩ => ⟨S64x1000x1, .f32⟩
  | .hbm, ⟨69, _⟩ => ⟨S64x1000x1, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S64x1000x1, .f32⟩
  | .hbm, ⟨75, _⟩ => ⟨S64x1000x1, .f32⟩
  | .hbm, ⟨76, _⟩ => ⟨S64x1000x128, .f32⟩
  | .hbm, ⟨77, _⟩ => ⟨S64x1000x128, .f32⟩
  | .hbm, ⟨78, _⟩ => ⟨S_, .f32⟩
  | .hbm, ⟨79, _⟩ => ⟨S64x1000x1, .f32⟩
  | .hbm, ⟨80, _⟩ => ⟨S64x1000x1, .f32⟩
  | .hbm, ⟨81, _⟩ => ⟨S64x1000x1, .f32⟩
  | .hbm, ⟨82, _⟩ => ⟨S64x1000x128, .f32⟩
  | .hbm, ⟨83, _⟩ => ⟨S64x1000x128, .f32⟩
  | .hbm, ⟨84, _⟩ => ⟨S1x1x128, .f32⟩
  | .hbm, ⟨85, _⟩ => ⟨S64x1000x128, .f32⟩
  | .hbm, ⟨86, _⟩ => ⟨S64x1000x128, .f32⟩
  | .hbm, ⟨87, _⟩ => ⟨S1x1x128, .f32⟩
  | .hbm, ⟨88, _⟩ => ⟨S64x1000x128, .f32⟩
  | .hbm, ⟨89, _⟩ => ⟨S64x1000x128, .f32⟩
  | _, _ => ⟨S64x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call3_cst : Ref sig .tc := ⟨.hbm, 38, rfl⟩
abbrev main_call3_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_call4_cst : Ref sig .tc := ⟨.hbm, 53, rfl⟩
abbrev main_call4_v0 : Ref sig .tc := ⟨.hbm, 54, rfl⟩
abbrev main_call4_v1 : Ref sig .tc := ⟨.hbm, 55, rfl⟩
abbrev main_call4_cst_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_v6 : Ref sig .tc := ⟨.hbm, 61, rfl⟩
abbrev main_call4_v7 : Ref sig .tc := ⟨.hbm, 62, rfl⟩
abbrev main_call4_cst_1 : Ref sig .tc := ⟨.hbm, 63, rfl⟩
abbrev main_call4_v8 : Ref sig .tc := ⟨.hbm, 64, rfl⟩
abbrev main_call4_cst_2 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_cst_3 : Ref sig .tc := ⟨.hbm, 70, rfl⟩
abbrev main_call4_v13 : Ref sig .tc := ⟨.hbm, 71, rfl⟩
abbrev main_call4_cst_4 : Ref sig .tc := ⟨.hbm, 72, rfl⟩
abbrev main_call4_call0_v0 : Ref sig .tc := ⟨.hbm, 73, rfl⟩
abbrev main_call4_call0_v1 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_7 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩

abbrev nD : Nat := 1
abbrev τ : Topo := Topo.v7x

variable {F : FTy → Type} [FloatOps F]
-- ==== Proof.Slab.lean ====
/- What one grid step stores. The body treats its eight batch elements one after another with the same text: this
   module names that text once (`slab`), shows that each of the eight stores writes it, and reads the step's whole
   output block as one function of the step's input blocks (`out_apply`). -/
module

public import proofs.«01_k».proof.Proof.Gen.KernelIdeal.Value
public import Idealize.ShloMosaic.Lib.ValueIdx
public import Idealize.ShloMosaic.Lib.Pipeline.Value
public import Idealize.ShloMosaic.Lib.Pipeline.ValueKit.Tiles

@[expose] public section

set_option maxRecDepth 16384

noncomputable section

namespace Cert.Proof

open Idealize.ShloMosaic Idealize.ShloMosaic.ValueIdx Cert.KernelIdeal Cert.KernelIdeal.Gen

variable {F : FTy → Type} [FloatOps F]

/-- The normalised output of one batch element from its features, its mask and the two weight matrices. -/
def slab (h : Vec F S1x1000x128 .f32) (mk : Vec F S1x1000x1000 .i8) (w1 : Vec F S128x512 .bf16)
    (w2 : Vec F S512x128 .bf16) : FVec F S1x1000x128 .f32 :=
  k0_pay1 (k0_pay36 h mk w1 w2)

/-- Batch element `g` of a block of eight feature matrices. -/
def featAt (x : Vec F S8x1000x128 .f32) (g : Fin 8) : Vec F S1x1000x128 .f32 :=
  fun i => x (ix3 g (i 1 : Fin 1000) (i 2 : Fin 128))

/-- Batch element `g` of a block of eight masks. -/
def maskAt (x : Vec F S8x1000x1000 .i8) (g : Fin 8) : Vec F S1x1000x1000 .i8 :=
  fun i => x (ix3 g (i 1 : Fin 1000) (i 2 : Fin 1000))

/-- The block of eight outputs: each batch element's slab at its own place. -/
def blockOut (x0 : Vec F S8x1000x128 .f32) (x1 : Vec F S8x1000x1000 .i8) (x2 : Vec F S128x512 .bf16)
    (x3 : Vec F S512x128 .bf16) : Vec F S8x1000x128 .f32 :=
  fun y => slab (featAt x0 (y 0)) (maskAt x1 (y 0)) x2 x3 (ix3 (0 : Fin 1) (y 1 : Fin 1000) (y 2 : Fin 128))

/-- The rectangle of batch element `g` loads that element's features. -/
theorem ld_feat (x : Vec F S8x1000x128 .f32) (g : Fin 8)
    (inb : ∀ a, (![g.val, 0, 0] : Fin 3 → Nat) a + S1x1000x128.size a ≤ S8x1000x128.size a) :
    View.ld x (Rect.unit (s := S8x1000x128) ![g.val, 0, 0] S1x1000x128.size inb) = featAt x g := by
  funext i
  refine View.ld_unit_apply_of x _ _ inb i _ fun a => ?_
  match a with
  | ⟨0, _⟩ => have h0 : (i 0).val < 1 := (i 0).isLt
              show g.val = g.val + (i 0).val; omega
  | ⟨1, _⟩ => show (i 1).val = 0 + (i 1).val; omega
  | ⟨2, _⟩ => show (i 2).val = 0 + (i 2).val; omega

/-- The rectangle of batch element `g` loads that element's mask. -/
theorem ld_mask (x : Vec F S8x1000x1000 .i8) (g : Fin 8)
    (inb : ∀ a, (![g.val, 0, 0] : Fin 3 → Nat) a + S1x1000x1000.size a ≤ S8x1000x1000.size a) :
    View.ld x (Rect.unit (s := S8x1000x1000) ![g.val, 0, 0] S1x1000x1000.size inb) = maskAt x g := by
  funext i
  refine View.ld_unit_apply_of x _ _ inb i _ fun a => ?_
  match a with
  | ⟨0, _⟩ => have h0 : (i 0).val < 1 := (i 0).isLt
              show g.val = g.val + (i 0).val; omega
  | ⟨1, _⟩ => show (i 1).val = 0 + (i 1).val; omega
  | ⟨2, _⟩ => show (i 2).val = 0 + (i 2).val; omega

/-- The slab of the loads through batch element `g`'s rectangles, at a place of that rectangle, is the block's
    value at that place. -/
theorem slab_piece (x0 : Vec F S8x1000x128 .f32) (x1 : Vec F S8x1000x1000 .i8) (x2 : Vec F S128x512 .bf16)
    (x3 : Vec F S512x128 .bf16) (g : Fin 8)
    (inb : ∀ a, (![g.val, 0, 0] : Fin 3 → Nat) a + S1x1000x128.size a ≤ S8x1000x128.size a)
    (inb' : ∀ a, (![g.val, 0, 0] : Fin 3 → Nat) a + S1x1000x1000.size a ≤ S8x1000x1000.size a)
    (x : S1x1000x128.Idx) :
    slab (View.ld x0 (Rect.unit (s := S8x1000x128) ![g.val, 0, 0] S1x1000x128.size inb))
        (View.ld x1 (Rect.unit (s := S8x1000x1000) ![g.val, 0, 0] S1x1000x1000.size inb'))
        (View.ld x2 r0_2) (View.ld x3 r0_3) x
      = blockOut x0 x1 x2 x3 ((Rect.unit (s := S8x1000x128) ![g.val, 0, 0] S1x1000x128.size inb).emb x) := by
  have z : (![0, 0] : Fin 2 → Nat) = fun _ => 0 := by
    funext a; match a with | ⟨0, _⟩ => rfl | ⟨1, _⟩ => rfl
  rw [ld_feat x0 g inb, ld_mask x1 g inb', View.ld_unit_zero z, View.ld_unit_zero z]
  have e0 : ((Rect.unit (s := S8x1000x128) ![g.val, 0, 0] S1x1000x128.size inb).emb x) 0 = g := Fin.ext (by
    have h0 : (x 0).val < 1 := (x 0).isLt
    show g.val + 1 * (x 0).val = g.val; omega)
  unfold blockOut
  rw [e0]
  refine congrArg _ (funext fun a => Fin.ext ?_)
  match a with
  | ⟨0, _⟩ => have h0 : (x 0).val < 1 := (x 0).isLt
              show (x 0).val = 0; omega
  | ⟨1, _⟩ => show (x 1).val = 0 + 1 * (x 1).val; omega
  | ⟨2, _⟩ => show (x 2).val = 0 + 1 * (x 2).val; omega

/-- The step's output block is, everywhere, the slab of the batch element it belongs to. -/
theorem out_apply (x0 : Vec F S8x1000x128 .f32) (x1 : Vec F S8x1000x1000 .i8) (x2 : Vec F S128x512 .bf16)
    (x3 : Vec F S512x128 .bf16) : out0_4 x0 x1 x2 x3 = blockOut x0 x1 x2 x3 := by
  funext y
  unfold out0_4
  refine View.canon_apply_of_pieces _ _ ?_ y (cover0_4 _ _ _ _ _ _ _ _ y)
  intro p hp
  simp only [List.mem_cons, List.not_mem_nil, or_false] at hp
  rcases hp with rfl | rfl | rfl | rfl | rfl | rfl | rfl | rfl
  · exact slab_piece x0 x1 x2 x3 7 _ _
  · exact slab_piece x0 x1 x2 x3 6 _ _
  · exact slab_piece x0 x1 x2 x3 5 _ _
  · exact slab_piece x0 x1 x2 x3 4 _ _
  · exact slab_piece x0 x1 x2 x3 3 _ _
  · exact slab_piece x0 x1 x2 x3 2 _ _
  · exact slab_piece x0 x1 x2 x3 1 _ _
  · exact slab_piece x0 x1 x2 x3 0 _ _

end Cert.Proof

end
-- ==== Proof.Arith.lean ====
/- The layer on extended reals: the eight-bit code of a feature, the masked mean of the codes, the two-matrix
   perceptron with its residual, and the normalisation of a row. Both programs are read as these functions. -/
module

public import Idealize.ShloMosaic.PureOps.Ideal
public import Idealize.ShloMosaic.PureOps.Ideal.Laws
public import Idealize.ShloMosaic.PureOps.IdealRules
public import Idealize.ShloMosaic.Lib.ValueIdx

@[expose] public section

noncomputable section

namespace Cert.Proof

open Idealize.ShloMosaic Idealize.ShloMosaic.ValueIdx

/-- The word for 127/6, the number of code steps per unit. -/
abbrev perUnit : EReal := Ideal.ofBits .f32 0x41A95555#32
/-- The word for 6/127, the size of a code step. -/
abbrev stepSize : EReal := Ideal.ofBits .f32 0x3D418306#32
/-- The word for the normalisation's small constant. -/
abbrev small : EReal := Ideal.ofBits .f32 0x3727C5AC#32

theorem word_127 : Ideal.ofBits .f32 0x42FE0000#32 = ((127 : ℝ) : EReal) := by
  simp [Ideal.ofBits, Ideal.ieee, -EReal.coe_mul]; norm_num
theorem word_neg_127 : Ideal.ofBits .f32 0xC2FE0000#32 = ((-127 : ℝ) : EReal) := by
  simp [Ideal.ofBits, Ideal.ieee, -EReal.coe_mul]; norm_num
theorem word_1 : Ideal.ofBits .f32 0x3F800000#32 = ((1 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_0 : Ideal.ofBits .f32 0x00000000#32 = 0 := Ideal.ofBits_zero_f32
/-- The code step is finite. -/
theorem stepSize_real : ∃ s : ℝ, stepSize = (s : EReal) := by
  refine ⟨6340995 / 134217728, ?_⟩
  simp [stepSize, Ideal.ofBits, Ideal.ieee, -EReal.coe_mul]; norm_num
/-- The small constant is finite and above zero. -/
theorem small_pos : ∃ s : ℝ, 0 < s ∧ small = (s : EReal) := by
  refine ⟨2748779 / 274877906944, by norm_num, ?_⟩
  simp [small, Ideal.ofBits, Ideal.ieee, -EReal.coe_mul]; norm_num

/-- The code of a feature: its number of steps, rounded to an integer (ties to even) and clamped to ±127. -/
def code (x : EReal) : EReal :=
  min (Ideal.ofBits .f32 0x42FE0000#32)
    (max (Ideal.ofBits .f32 0xC2FE0000#32) (Ideal.liftRound Ideal.roundHalfEven (x * perUnit)))

theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm
theorem coe_sum' {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- Every code is an integer between −127 and 127, whatever the feature (infinities included). -/
theorem code_int (x : EReal) : ∃ z : ℤ, -127 ≤ z ∧ z ≤ 127 ∧ code x = ((z : ℝ) : EReal) := by
  unfold code
  rw [word_127, word_neg_127]
  generalize x * perUnit = y
  induction y using EReal.rec with
  | bot =>
    refine ⟨-127, by norm_num, by norm_num, ?_⟩
    rw [Ideal.liftRound_bot, max_eq_left bot_le, coe_min']
    norm_num
  | top =>
    refine ⟨127, by norm_num, by norm_num, ?_⟩
    rw [Ideal.liftRound_top, max_eq_right le_top, min_eq_left le_top]
    norm_num
  | coe r =>
    refine ⟨min 127 (max (-127) (Ideal.roundHalfEven r)), by omega, by omega, ?_⟩
    rw [Ideal.liftRound_coe, coe_max', coe_min']
    push_cast; rfl

/-- Converting a code to a signed byte loses nothing: the byte reads as the code. -/
theorem code_byte (x : EReal) : (((Ideal.fptosi 8 (code x)).toInt : ℝ) : EReal) = code x := by
  obtain ⟨z, h1, h2, e⟩ := code_int x
  rw [e]
  congr 2
  unfold Ideal.fptosi
  rw [Ideal.toIntClamped_coe]
  simp only [Int.floor_intCast, Int.ceil_intCast, ite_self]
  rw [BitVec.toInt_ofInt, Int.bmod_eq_of_le] <;> norm_num <;> omega

/-- A mask bit widened to a byte reads, signed, as the bit. -/
theorem bit_byte (b : BitVec 1) : (b.setWidth 8).toInt = (b.toNat : ℤ) := by
  revert b; decide

/-- The mean of the dequantised features over the masked rows, as the reference takes it: a masked sum of codes in
    their units, over the number of masked rows (at least one). -/
def meanOf (b : Fin 1000 → BitVec 1) (x : Fin 1000 → EReal) : EReal :=
  Ideal.div (∑ j, (((b j).toNat : ℝ) : EReal) * (code (x j) * stepSize))
    (max (Ideal.ofBits .f32 0x3F800000#32) (Ideal.ofBits .f32 0x00000000#32 + ∑ j, (((b j).toNat : ℝ) : EReal)))

/-- The integer form of that mean: the exact integer sum of codes, scaled once by the step over the integer count. -/
theorem mean_of_codes (b : Fin 1000 → BitVec 1) (x : Fin 1000 → EReal) :
    (((∑ j, ((b j).setWidth 8).toInt * (Ideal.fptosi 8 (code (x j))).toInt : ℤ) : ℝ) : EReal)
        * Ideal.div stepSize (max (((∑ j, ((b j).setWidth 8).toInt * (1#8).toInt : ℤ) : ℝ) : EReal)
            (Ideal.ofBits .f32 0x3F800000#32))
      = meanOf b x := by
  unfold meanOf
  obtain ⟨s, hs⟩ := stepSize_real
  have hb : ∀ j, (((b j).setWidth 8).toInt : ℝ) = ((b j).toNat : ℝ) := fun j => by
    rw [bit_byte]; norm_cast
  have h1 : ((1#8).toInt : ℝ) = 1 := by
    rw [show (1#8).toInt = 1 from by decide]; norm_num
  have hd : max (1 : ℝ) (∑ j, ((b j).toNat : ℝ)) ≠ 0 := by positivity
  rw [word_0, zero_add, word_1, hs]
  have hc : ∀ j, (((b j).toNat : ℝ) : EReal) * (code (x j) * (s : EReal))
      = ((((b j).toNat : ℝ) * (((Ideal.fptosi 8 (code (x j))).toInt : ℝ) * s) : ℝ) : EReal) := fun j => by
    rw [EReal.coe_mul, EReal.coe_mul, code_byte]
  simp only [hc]
  simp only [Int.cast_sum, Int.cast_mul, hb, h1, mul_one]
  rw [coe_sum', coe_sum', coe_max', coe_max', max_comm, Ideal.div_coe hd, Ideal.div_coe hd, ← EReal.coe_mul,
    ← EReal.coe_mul, ← EReal.coe_mul, EReal.coe_eq_coe_iff, Finset.sum_mul, Finset.sum_mul]
  refine Finset.sum_congr rfl fun j _ => ?_
  ring

/-- A row through the two weight matrices (a clamp at zero between them), added to the row's own features. -/
def residual (f a : Fin 128 → EReal) (w1 : Fin 128 → Fin 512 → EReal) (w2 : Fin 512 → Fin 128 → EReal)
    (d : Fin 128) : EReal :=
  f d + ∑ k, max (∑ e, a e * w1 e k) 0 * w2 k d

/-- The mean of a row. -/
def rowMean (o : Fin 128 → EReal) : EReal := Ideal.div (∑ e, o e) (Ideal.ofBits .f32 0x43000000#32)

/-- The mean of the squared distances from the row's mean. -/
def rowVar (o : Fin 128 → EReal) : EReal :=
  Ideal.div (∑ e, (o e - rowMean o) * (o e - rowMean o)) (Ideal.ofBits .f32 0x43000000#32)

/-- A row normalised: its distance from the mean times the reciprocal root of variance plus the small constant. -/
def rowNorm (o : Fin 128 → EReal) (d : Fin 128) : EReal :=
  (o d - rowMean o) * Ideal.rsqrt (rowVar o + small)

theorem square_nonneg (x : EReal) : 0 ≤ x * x := by
  rcases le_total 0 x with h | h
  · exact mul_nonneg h h
  · rw [← neg_mul_neg]
    have : 0 ≤ -x := by rw [EReal.le_neg, neg_zero]; exact h
    exact mul_nonneg this this

/-- The variance is never below zero. -/
theorem rowVar_nonneg (o : Fin 128 → EReal) : 0 ≤ rowVar o := by
  unfold rowVar
  rw [word_128, Ideal.div_coe (by norm_num)]
  refine mul_nonneg (Finset.sum_nonneg fun e _ => square_nonneg _) ?_
  exact_mod_cast (by norm_num : (0 : ℝ) ≤ 1 / 128)

/-- Above zero, dividing by the root and multiplying by the reciprocal root agree. -/
theorem div_sqrt (x y : EReal) (hy : 0 < y) : Ideal.div x (Ideal.sqrt y) = x * Ideal.rsqrt y := by
  induction y using EReal.rec with
  | bot => exact absurd hy (by simp)
  | top => simp [Ideal.div]
  | coe r =>
    have hr : 0 < r := by exact_mod_cast hy
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs, one_div]

/-- The reference's spelling of the normalised row. -/
theorem rowNorm_eq_div (o : Fin 128 → EReal) (d : Fin 128) :
    Ideal.div (o d - rowMean o) (Ideal.sqrt (rowVar o + small)) = rowNorm o d := by
  refine div_sqrt _ _ ?_
  obtain ⟨s, h0, hs⟩ := small_pos
  rw [hs]
  have h : (0 : EReal) < (s : EReal) := by exact_mod_cast h0
  calc (0 : EReal) < s := h
    _ = 0 + s := (zero_add _).symm
    _ ≤ rowVar o + s := add_le_add (rowVar_nonneg o) le_rfl

/-- The row before normalisation: node `r` of batch element `b`, its features plus the perceptron of its masked
    mean. -/
def nodeRow (h : FVec Ideal ⟨3, ![64, 1000, 128]⟩ .f32) (mk : IVec ⟨3, ![64, 1000, 1000]⟩ 1)
    (w1 : FVec Ideal ⟨2, ![128, 512]⟩ .f32) (w2 : FVec Ideal ⟨2, ![512, 128]⟩ .f32) (b : Fin 64) (r : Fin 1000) :
    Fin 128 → EReal :=
  residual (fun e => h (ix3 b r e)) (fun e => meanOf (fun j => mk (ix3 b r j)) (fun j => h (ix3 b j e)))
    (fun e k => w1 (ix2 e k)) (fun k e => w2 (ix2 k e))

/-- The whole layer's output. -/
def layer (h : FVec Ideal ⟨3, ![64, 1000, 128]⟩ .f32) (mk : IVec ⟨3, ![64, 1000, 1000]⟩ 1)
    (w1 : FVec Ideal ⟨2, ![128, 512]⟩ .f32) (w2 : FVec Ideal ⟨2, ![512, 128]⟩ .f32) :
    FVec Ideal ⟨3, ![64, 1000, 128]⟩ .f32 :=
  fun i => rowNorm (nodeRow h mk w1 w2 (i 0) (i 1)) (i 2)

end Cert.Proof

end
-- ==== Proof.SlabValue.lean ====
/- One batch element's slab on extended reals, read at a row and a column: the normalised row of features plus
   perceptron, over the integer form of the masked mean. -/
module

public import proofs.«01_k».proof.Proof.Slab
public import proofs.«01_k».proof.Proof.Arith
public import Idealize.ShloMosaic.Lib.IntMxu
public import Idealize.ShloMosaic.Lib.MatmulPlain
public import Idealize.ShloMosaic.Lib.ValueLayoutCasts
public import Idealize.ShloMosaic.Lib.Pointwise.ElementwiseCore

@[expose] public section

set_option maxRecDepth 16384

noncomputable section

namespace Cert.Proof

open Idealize.ShloMosaic Idealize.ShloMosaic.ValueIdx Cert.KernelIdeal Cert.KernelIdeal.Gen

/-- A column spread over the columns of a matrix reads its row's entry. -/
theorem spread_apply {α : Type} (v : S1000x1.Idx → α) (r : Fin 1000) (d : Fin 128) :
    broadcastTo S1000x128 v broadcasts_S1000x1_S1000x128 (ix2 r d) = v (ix2 r (0 : Fin 1)) := by
  refine broadcastTo_apply v _ _ _ fun a => ?_
  match a with
  | ⟨0, _⟩ => rfl
  | ⟨1, _⟩ => rfl

/-- The sum of a matrix's row, kept as a column, reads the sum of that row's entries. -/
theorem rowSum_apply (v : FVec Ideal S1000x128 .f32) (r : Fin 1000) (u : Fin 1) :
    shapeCast S1000x1 (multiReduction .add [1] S1000 v 0x00000000#32 reduces_S1000x128_S1000 (.inl rfl) rfl)
        shapeCasts_S1000_S1000x1 (ix2 r u)
      = ∑ e : Fin 128, v (ix2 r e) := by
  rw [shapeCast_a_a1_apply]
  refine (Ideal.multiReduction_add_single v _ _ _ _ _).trans ?_
  refine Finset.sum_congr rfl fun e _ => congrArg v (funext fun a => ?_)
  match a with
  | ⟨0, _⟩ => rfl
  | ⟨1, _⟩ => rfl

/-- An int8 matrix product over the thousand rows is the exact integer sum of products: a thousand products of two
    bytes stay inside the unit's exact range. -/
theorem intDot_apply (x : IVec S1000x1000 8) (q : IVec S1000x129 8) (r : Fin 1000) (c : Fin 129) :
    (matmulI8 IntMxuNumerics.v7x dot_S1000x1000_S1000x129_S1000x129_1_0_0_1_n_n x q (constantI S1000x129 32 0#32)
        (ix2 r c)).toInt
      = ∑ j : Fin 1000, (x (ix2 r j)).toInt * (q (ix2 j c)).toInt := by
  show (matmulI8 IntMxuNumerics.v7x (DotDims.plain 1000 1000 129) x q (constantI S1000x129 32 0#32) (ix2 r c)).toInt = _
  have hn : (DotDims.plain 1000 1000 129).contr.numel = 1000 := by rfl
  rw [matmulI8_toInt _ _ _ _ _ _ rfl ((absDotI8_le_numel _ _ _ _).trans (by rw [hn]; decide))]
  unfold dotI8
  rw [← Equiv.sum_comp (DotDims.plainContr 1000 1000 129).symm]
  refine Finset.sum_congr rfl fun k _ => ?_
  have hk := contrEquiv1_symm_val _ 1000 (DotDims.plain_contr_rank 1000 1000 129)
    (DotDims.plain_contr_size 1000 1000 129) k
  refine congrArg₂ (fun (a : BitVec 8) (b : BitVec 8) => a.toInt * b.toInt)
    (congrArg x (funext fun a => Fin.ext ?_)) (congrArg q (funext fun a => Fin.ext ?_))
  · match a with
    | ⟨0, _⟩ => rfl
    | ⟨1, _⟩ => exact hk
  · match a with
    | ⟨0, _⟩ => exact hk
    | ⟨1, _⟩ => rfl

/-- The features of a batch element as a matrix. -/
def feats (h : Vec Ideal S1x1000x128 .f32) : FVec Ideal S1000x128 .f32 :=
  shapeCast S1000x128 h shapeCasts_S1x1000x128_S1000x128

/-- The features' codes as bytes. -/
def codes (h : Vec Ideal S1x1000x128 .f32) : IVec S1000x128 8 :=
  fptosi 8 (minimumf (broadcast S1000x128 (Scalar.ofBits .f32 0x42FE0000#32))
    (maximumf (broadcast S1000x128 (Scalar.ofBits .f32 0xC2FE0000#32))
      (roundeven (mulf (feats h) (broadcast S1000x128 (Scalar.ofBits .f32 0x41A95555#32))))))

/-- The integer product of the mask with the codes and a last column of ones. -/
def sums (h : Vec Ideal S1x1000x128 .f32) (mk : Vec Ideal S1x1000x1000 .i8) : IVec S1000x129 32 :=
  matmulI8 IntMxuNumerics.v7x dot_S1000x1000_S1000x129_S1000x129_1_0_0_1_n_n
    (shapeCast S1000x1000 mk shapeCasts_S1x1000x1000_S1000x1000)
    (concatenate S1000x129 1 [⟨S1000x128, codes h⟩, ⟨S1000x1, broadcast S1000x1 1#8⟩]
      concatenates_S1000x128_S1000x1_S1000x129_d1)
    (constantI S1000x129 32 0#32)

/-- The masked means: the sums in the code's units over the counts. -/
def means (h : Vec Ideal S1x1000x128 .f32) (mk : Vec Ideal S1x1000x1000 .i8) : FVec Ideal S1000x128 .f32 :=
  mulf (sitofp .f32 (extractStridedSlice S1000x128 ![0, 0] (sums h mk) slices_S1000x129_o0_0_S1000x128))
    (broadcastTo S1000x128
      (divf (broadcast S1000x1 (Scalar.ofBits .f32 0x3D418306#32))
        (maximumf (sitofp .f32 (extractStridedSlice S1000x1 ![0, 128] (sums h mk) slices_S1000x129_o0_128_S1000x1))
          (broadcast S1000x1 (Scalar.ofBits .f32 0x3F800000#32))))
      broadcasts_S1000x1_S1000x128)

/-- The hidden layer: the means through the first weights, clamped at zero. -/
def hidden (a : FVec Ideal S1000x128 .f32) (w1 : FVec Ideal S128x512 .bf16) : FVec Ideal S1000x512 .bf16 :=
  maximumf
    (truncf .bf16 (matmul dot_S1000x128_S128x512_S1000x512_1_0_0_1_n_n none (truncf .bf16 a bitsLt_bf16_f32)
      (shapeCast S128x512 w1 shapeCasts_S128x512_S128x512) (constant S1000x512 .f32 0x00000000#32)) bitsLt_bf16_f32)
    (broadcast S1000x512 (Scalar.ofBits .bf16 0x0000#16))

/-- The features plus the hidden layer through the second weights. -/
def added (h : Vec Ideal S1x1000x128 .f32) (a : FVec Ideal S1000x128 .f32) (w1 : FVec Ideal S128x512 .bf16)
    (w2 : FVec Ideal S512x128 .bf16) : FVec Ideal S1000x128 .f32 :=
  addf (feats h) (matmul dot_S1000x512_S512x128_S1000x128_1_0_0_1_n_n none (hidden a w1)
    (shapeCast S512x128 w2 shapeCasts_S512x128_S512x128) (constant S1000x128 .f32 0x00000000#32))

/-- The slab in these terms. -/
theorem slab_eq (h : Vec Ideal S1x1000x128 .f32) (mk : Vec Ideal S1x1000x1000 .i8) (w1 : Vec Ideal S128x512 .bf16)
    (w2 : Vec Ideal S512x128 .bf16) : slab h mk w1 w2 = k0_pay1 (added h (means h mk) w1 w2) := rfl

theorem feats_apply (h : Vec Ideal S1x1000x128 .f32) (r : Fin 1000) (d : Fin 128) :
    feats h (ix2 r d) = h (ix3 (0 : Fin 1) r d) := shapeCast_1ab_ab_apply h _ r d

/-- A byte of the codes is the converted code of its feature. -/
theorem codes_apply (h : Vec Ideal S1x1000x128 .f32) (r : Fin 1000) (d : Fin 128) :
    codes h (ix2 r d) = Ideal.fptosi 8 (code (h (ix3 (0 : Fin 1) r d))) := by
  show Ideal.fptosi 8 (code (feats h (ix2 r d))) = _
  rw [feats_apply]

/-- The sum column `d` of row `r`: the masked sum of codes. -/
theorem sums_left (h : Vec Ideal S1x1000x128 .f32) (mk : Vec Ideal S1x1000x1000 .i8) (r : Fin 1000) (d : Fin 128) :
    (extractStridedSlice S1000x128 ![0, 0] (sums h mk) slices_S1000x129_o0_0_S1000x128 (ix2 r d)).toInt
      = ∑ j : Fin 1000, (mk (ix3 (0 : Fin 1) r j) : BitVec 8).toInt
          * (Ideal.fptosi 8 (code (h (ix3 (0 : Fin 1) j d)))).toInt := by
  have hd : d.val < 129 := by omega
  rw [extractStridedSlice_apply ![0, 0] (sums h mk) _ (ix2 r d) (ix2 r (⟨d.val, hd⟩ : Fin 129)) (by
    intro a
    match a with
    | ⟨0, _⟩ => show r.val = 0 + r.val; omega
    | ⟨1, _⟩ => show d.val = 0 + d.val; omega)]
  unfold sums
  rw [intDot_apply]
  refine Finset.sum_congr rfl fun j _ => ?_
  rw [shapeCast_1ab_ab_apply, ← codes_apply,
    concatenate_pair_apply_left (t := S1000x129) 1 (codes h) (broadcast S1000x1 1#8) _ (ix2 j (⟨d.val, hd⟩ : Fin 129)) rfl (ix2 j d) (by
      intro b
      match b with
      | ⟨0, _⟩ => rfl
      | ⟨1, _⟩ => rfl)]

/-- The last column of row `r`: the count of masked rows. -/
theorem sums_right (h : Vec Ideal S1x1000x128 .f32) (mk : Vec Ideal S1x1000x1000 .i8) (r : Fin 1000) (u : Fin 1) :
    (extractStridedSlice S1000x1 ![0, 128] (sums h mk) slices_S1000x129_o0_128_S1000x1 (ix2 r u)).toInt
      = ∑ j : Fin 1000, (mk (ix3 (0 : Fin 1) r j) : BitVec 8).toInt * (1#8).toInt := by
  have hu : u.val = 0 := by omega
  rw [extractStridedSlice_apply ![0, 128] (sums h mk) _ (ix2 r u) (ix2 r (128 : Fin 129)) (by
    intro a
    match a with
    | ⟨0, _⟩ => show r.val = 0 + r.val; omega
    | ⟨1, _⟩ => show 128 = 128 + u.val; omega)]
  unfold sums
  rw [intDot_apply]
  refine Finset.sum_congr rfl fun j _ => ?_
  rw [shapeCast_1ab_ab_apply,
    concatenate_pair_apply_right (t := S1000x129) 1 (codes h) (broadcast S1000x1 1#8) _ (ix2 j (128 : Fin 129)) rfl rfl
      (ix2 j (0 : Fin 1)) (by
      intro b hb
      match b, hb with
      | ⟨0, _⟩, _ => rfl
      | ⟨1, _⟩, hb => exact absurd rfl hb) rfl]
  rfl

/-- The masked mean at a row and column, when the mask bytes are widened bits. -/
theorem means_apply (h : Vec Ideal S1x1000x128 .f32) (mk : Vec Ideal S1x1000x1000 .i8) (r : Fin 1000) (d : Fin 128)
    (b : Fin 1000 → BitVec 1) (hb : ∀ j, mk (ix3 (0 : Fin 1) r j) = (b j).setWidth 8) :
    means h mk (ix2 r d) = meanOf b (fun j => h (ix3 (0 : Fin 1) j d)) := by
  rw [← mean_of_codes]
  unfold means
  rw [mulf_apply, spread_apply, divf_apply, maximumf_apply, sitofp_apply, sitofp_apply]
  show (((_ : ℤ) : ℝ) : EReal) * Ideal.div stepSize (max (((_ : ℤ) : ℝ) : EReal) (Ideal.ofBits .f32 0x3F800000#32)) = _
  rw [sums_left, sums_right]
  simp only [hb]

/-- The hidden layer at a row and unit. -/
theorem hidden_apply (a : FVec Ideal S1000x128 .f32) (w1 : FVec Ideal S128x512 .bf16) (r : Fin 1000) (k : Fin 512) :
    hidden a w1 (ix2 r k) = max (∑ e : Fin 128, a (ix2 r e) * w1 (ix2 e k)) 0 := by
  have hz : (Ideal.ofBits .bf16 0x0000#16 : EReal) = 0 := by
    simp [Ideal.ofBits, Ideal.ieee]
  unfold hidden
  rw [maximumf_apply, truncf_apply, shapeCast_self]
  show max (FloatOps.matmul (F := Ideal) (DotDims.plain 1000 128 512) none (φ₁ := .bf16) (φ₂ := .bf16) _ w1 _ (ix2 r k))
    (Ideal.ofBits .bf16 0x0000#16) = _
  rw [Ideal.matmul_plain_apply, hz]
  show max (Ideal.ofBits .f32 0x00000000#32 + _) 0 = _
  rw [word_0, zero_add]
  rfl

/-- The residual row at a row and column. -/
theorem added_apply (h : Vec Ideal S1x1000x128 .f32) (a : FVec Ideal S1000x128 .f32) (w1 : FVec Ideal S128x512 .bf16)
    (w2 : FVec Ideal S512x128 .bf16) (r : Fin 1000) (d : Fin 128) :
    added h a w1 w2 (ix2 r d) = residual (fun e => h (ix3 (0 : Fin 1) r e)) (fun e => a (ix2 r e))
      (fun e k => w1 (ix2 e k)) (fun k e => w2 (ix2 k e)) d := by
  unfold added residual
  rw [addf_apply, feats_apply, shapeCast_self]
  show h (ix3 (0 : Fin 1) r d) + FloatOps.matmul (F := Ideal) (DotDims.plain 1000 512 128) none (φ₁ := .bf16) (φ₂ := .bf16) _ w2 _ (ix2 r d) = _
  rw [Ideal.matmul_plain_apply]
  show h (ix3 (0 : Fin 1) r d) + (Ideal.ofBits .f32 0x00000000#32 + _) = _
  rw [word_0, zero_add]
  simp only [hidden_apply]

/-- The column of row means. -/
def meanCol (o : FVec Ideal S1000x128 .f32) : FVec Ideal S1000x1 .f32 :=
  divf (shapeCast S1000x1 (multiReduction .add [1] S1000 o 0x00000000#32 reduces_S1000x128_S1000 (.inl rfl) rfl)
    shapeCasts_S1000_S1000x1) (broadcast S1000x1 (Scalar.ofBits .f32 0x43000000#32))

/-- The rows less their means. -/
def centred (o : FVec Ideal S1000x128 .f32) : FVec Ideal S1000x128 .f32 :=
  subf o (broadcastTo S1000x128 (meanCol o) broadcasts_S1000x1_S1000x128)

theorem meanCol_apply (o : FVec Ideal S1000x128 .f32) (r : Fin 1000) (u : Fin 1) :
    meanCol o (ix2 r u) = rowMean (fun e => o (ix2 r e)) := by
  unfold meanCol rowMean
  rw [divf_apply, rowSum_apply]
  rfl

theorem centred_apply (o : FVec Ideal S1000x128 .f32) (r : Fin 1000) (d : Fin 128) :
    centred o (ix2 r d) = o (ix2 r d) - rowMean (fun e => o (ix2 r e)) := by
  unfold centred
  rw [subf_apply, spread_apply, meanCol_apply]

/-- The last part of the slab normalises each row. -/
theorem normalised_apply (o : FVec Ideal S1000x128 .f32) (r : Fin 1000) (d : Fin 128) :
    k0_pay1 o (ix3 (0 : Fin 1) r d) = rowNorm (fun e => o (ix2 r e)) d := by
  show shapeCast S1x1000x128 (mulf (centred o) (broadcastTo S1000x128
    (rsqrt (addf (meanCol (mulf (centred o) (centred o))) (broadcast S1000x1 (Scalar.ofBits .f32 0x3727C5AC#32))))
    broadcasts_S1000x1_S1000x128)) shapeCasts_S1000x128_S1x1000x128 (ix3 (0 : Fin 1) r d) = _
  rw [shapeCast_ab_1ab_apply, mulf_apply, spread_apply, rsqrt_apply, addf_apply, meanCol_apply, centred_apply]
  simp only [mulf_apply, centred_apply]
  rfl

/-- The slab at a row and column, when the mask bytes are widened bits. -/
theorem slab_apply (h : Vec Ideal S1x1000x128 .f32) (mk : Vec Ideal S1x1000x1000 .i8) (w1 : Vec Ideal S128x512 .bf16)
    (w2 : Vec Ideal S512x128 .bf16) (r : Fin 1000) (d : Fin 128) (b : Fin 1000 → BitVec 1)
    (hb : ∀ j, mk (ix3 (0 : Fin 1) r j) = (b j).setWidth 8) :
    slab h mk w1 w2 (ix3 (0 : Fin 1) r d)
      = rowNorm (residual (fun e => h (ix3 (0 : Fin 1) r e)) (fun e => meanOf b (fun j => h (ix3 (0 : Fin 1) j e)))
          (fun e k => w1 (ix2 e k)) (fun k e => w2 (ix2 k e))) d := by
  rw [slab_eq, normalised_apply]
  refine congrArg (fun o => rowNorm o d) (funext fun e => ?_)
  rw [added_apply]
  simp only [means_apply h mk r _ b hb]

end Cert.Proof

end
-- ==== Proof.Array.lean ====
/- The kernel's result array: every grid step writes back eight batch elements of the layer's output, and the eight
   steps together cover the array. -/
module

public import proofs.«01_k».proof.Proof.SlabValue
public import Idealize.ShloMosaic.Lib.StableHlo.Run

@[expose] public section

set_option maxRecDepth 16384

noncomputable section

namespace Cert.Proof

open Idealize.ShloMosaic Idealize.ShloMosaic.TcCoe Idealize.ShloMosaic.ValueIdx Idealize.SL.Sem
open Cert.KernelIdeal Cert.KernelIdeal.Gen Cert.KernelIdeal.Value

variable (m : (ℓ : Loc nD τ sig) → Buf (Elt Ideal) ℓ) (c : Dev nD)

/-- The features at launch. -/
abbrev featsIn : FVec Ideal S64x1000x128 .f32 := m ((c : Thread nD τ).loc main_arg0)
/-- The mask at launch. -/
abbrev maskIn : IVec S64x1000x1000 1 := m ((c : Thread nD τ).loc main_arg1)
/-- The first weights at launch. -/
abbrev w1In : FVec Ideal S128x512 .f32 := m ((c : Thread nD τ).loc main_arg2)
/-- The second weights at launch. -/
abbrev w2In : FVec Ideal S512x128 .f32 := m ((c : Thread nD τ).loc main_arg4)

/-- The mask the grid reads is the launch mask widened to bytes. -/
theorem mask_entry (i : S64x1000x1000.Idx) : (V m c main_v1 : IVec S64x1000x1000 8) i = (maskIn m c i).setWidth 8 := by
  have e : (V m c main_v1 : IVec S64x1000x1000 8) = extui 8 (maskIn m c) natLt_1_8 := by
    show StableHlo.after hostOps0 _ (Proc.devRef .tc main_v1) = _
    after_results
    rfl
  rw [e]; rfl

/-- The first weights the grid reads are the launch's: a change of format keeps the value. -/
theorem w1_entry : (V m c main_v2 : FVec Ideal S128x512 .bf16) = w1In m c := by
  show StableHlo.after hostOps0 _ (Proc.devRef .tc main_v2) = _
  after_results
  rfl

/-- The second weights the grid reads are the launch's. -/
theorem w2_entry : (V m c main_v3 : FVec Ideal S512x128 .bf16) = w2In m c := by
  show StableHlo.after hostOps0 _ (Proc.devRef .tc main_v3) = _
  after_results
  rfl

/-- Step `t` works on block `t` of the batch axis, whole on the others. -/
theorem index_batch (t : Fin cfg0.N) :
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0) := by
  rcases fin_N0 t with rfl | rfl | rfl | rfl | rfl | rfl | rfl | rfl <;> decide

/-- Batch element `g` of step `t`. -/
def batchOf (t : Fin cfg0.N) (g : Fin 8) : Fin 64 :=
  ⟨t.val * 8 + g.val, by have h : t.val < 8 := lt_of_lt_of_eq t.isLt N_0; omega⟩

/-- The features' block at step `t`. -/
theorem feat_block (t : Fin cfg0.N) (g : Fin 8) (r : Fin 1000) (d : Fin 128) :
    (iblk m c 0 t : Vec Ideal S8x1000x128 .f32) (ix3 g r d) = featsIn m c (ix3 (batchOf t g) r d) := by
  obtain ⟨⟨h0, h1, h2⟩, _⟩ := index_batch t
  unfold iblk
  rw [View.read_apply]
  show V m c main_arg0 _ = _
  rw [V_main_arg0]
  refine congrArg (featsIn m c) (funext fun a => Fin.ext ?_)
  match a with
  | ⟨0, _⟩ => show win0_0.index t 0 * 8 + 1 * g.val = t.val * 8 + g.val; rw [h0]; omega
  | ⟨1, _⟩ => show win0_0.index t 1 * 1000 + 1 * r.val = r.val; rw [h1]; omega
  | ⟨2, _⟩ => show win0_0.index t 2 * 128 + 1 * d.val = d.val; rw [h2]; omega

/-- The mask's block at step `t`. -/
theorem mask_block (t : Fin cfg0.N) (g : Fin 8) (r j : Fin 1000) :
    (iblk m c 1 t : Vec Ideal S8x1000x1000 .i8) (ix3 g r j) = (maskIn m c (ix3 (batchOf t g) r j)).setWidth 8 := by
  obtain ⟨_, ⟨h0, h1, h2⟩, _⟩ := index_batch t
  unfold iblk
  rw [View.read_apply]
  refine (mask_entry m c _).trans (congrArg (fun i => (maskIn m c i).setWidth 8) (funext fun a => Fin.ext ?_))
  match a with
  | ⟨0, _⟩ => show win0_1.index t 0 * 8 + 1 * g.val = t.val * 8 + g.val; rw [h0]; omega
  | ⟨1, _⟩ => show win0_1.index t 1 * 1000 + 1 * r.val = r.val; rw [h1]; omega
  | ⟨2, _⟩ => show win0_1.index t 2 * 1000 + 1 * j.val = j.val; rw [h2]; omega

/-- The first weights' block at step `t` is all of them. -/
theorem w1_block (t : Fin cfg0.N) (e : Fin 128) (k : Fin 512) :
    (iblk m c 2 t : Vec Ideal S128x512 .bf16) (ix2 e k) = w1In m c (ix2 e k) := by
  obtain ⟨_, _, ⟨h0, h1⟩, _⟩ := index_batch t
  unfold iblk
  rw [View.read_apply]
  refine (congrFun (w1_entry m c) _).trans (congrArg (w1In m c) (funext fun a => Fin.ext ?_))
  match a with
  | ⟨0, _⟩ => show win0_2.index t 0 * 128 + 1 * e.val = e.val; rw [h0]; omega
  | ⟨1, _⟩ => show win0_2.index t 1 * 512 + 1 * k.val = k.val; rw [h1]; omega

/-- The second weights' block at step `t` is all of them. -/
theorem w2_block (t : Fin cfg0.N) (k : Fin 512) (e : Fin 128) :
    (iblk m c 3 t : Vec Ideal S512x128 .bf16) (ix2 k e) = w2In m c (ix2 k e) := by
  obtain ⟨_, _, _, ⟨h0, h1⟩, _⟩ := index_batch t
  unfold iblk
  rw [View.read_apply]
  refine (congrFun (w2_entry m c) _).trans (congrArg (w2In m c) (funext fun a => Fin.ext ?_))
  match a with
  | ⟨0, _⟩ => show win0_3.index t 0 * 512 + 1 * k.val = k.val; rw [h0]; omega
  | ⟨1, _⟩ => show win0_3.index t 1 * 128 + 1 * e.val = e.val; rw [h1]; omega

/-- The layer's output from the launch arguments. -/
abbrev result : FVec Ideal S64x1000x128 .f32 := layer (featsIn m c) (maskIn m c) (w1In m c) (w2In m c)

/-- The block step `t` leaves, at a place, is the layer's output at that place of the array. -/
theorem block_value (t : Fin cfg0.N) (g : Fin 8) (r : Fin 1000) (d : Fin 128) :
    blockOut (iblk m c 0 t : Vec Ideal S8x1000x128 .f32) (iblk m c 1 t : Vec Ideal S8x1000x1000 .i8)
        (iblk m c 2 t : Vec Ideal S128x512 .bf16) (iblk m c 3 t : Vec Ideal S512x128 .bf16) (ix3 g r d)
      = result m c (ix3 (batchOf t g) r d) := by
  show slab (featAt (iblk m c 0 t) g) (maskAt (iblk m c 1 t) g) (iblk m c 2 t) (iblk m c 3 t) (ix3 (0 : Fin 1) r d) = _
  rw [slab_apply _ _ _ _ r d (fun j => maskIn m c (ix3 (batchOf t g) r j)) (fun j => mask_block m c t g r j)]
  have ef : ∀ (j : Fin 1000) (e : Fin 128), featAt (iblk m c 0 t) g (ix3 (0 : Fin 1) j e)
      = featsIn m c (ix3 (batchOf t g) j e) := fun j e => feat_block m c t g j e
  have e1 : (fun (e : Fin 128) (k : Fin 512) => (iblk m c 2 t : Vec Ideal S128x512 .bf16) (ix2 e k))
      = fun e k => w1In m c (ix2 e k) := funext fun e => funext fun k => w1_block m c t e k
  have e2 : (fun (k : Fin 512) (e : Fin 128) => (iblk m c 3 t : Vec Ideal S512x128 .bf16) (ix2 k e))
      = fun k e => w2In m c (ix2 k e) := funext fun k => funext fun e => w2_block m c t k e
  rw [e1, e2]
  simp only [ef]
  rfl

/-- What step `t` writes back is block `t` of the layer's output. -/
theorem flushed_layer (t : Fin cfg0.N) :
    (dats m 0 c).flushed 4 t = ((cfg0.win 4).blk t).view.read (Elt Ideal) (result m c) := by
  obtain ⟨_, _, _, _, h0, h1, h2⟩ := index_batch t
  rw [flushed4, out_apply]
  funext j
  rw [View.read_apply]
  obtain ⟨g, r, d, rfl⟩ : ∃ (g : Fin 8) (r : Fin 1000) (d : Fin 128), j = ix3 g r d := ⟨j 0, j 1, j 2, eq_ix3 j⟩
  refine (block_value m c t g r d).trans (congrArg (result m c) (funext fun a => Fin.ext ?_))
  match a with
  | ⟨0, _⟩ => show t.val * 8 + g.val = win0_4.index t 0 * 8 + 1 * g.val; rw [h0]; omega
  | ⟨1, _⟩ => show r.val = win0_4.index t 1 * 1000 + 1 * r.val; rw [h1]; omega
  | ⟨2, _⟩ => show d.val = win0_4.index t 2 * 128 + 1 * d.val; rw [h2]; omega

/-- The result array ends holding the layer's output. -/
theorem array_layer : (dats m 0 c).arrAt 4 cfg0.N = result m c :=
  (dats m 0 c).arrAt_eq_of_cover 4 (result m c) (fun t _ => flushed_layer m c t) fun i => by
    have b0 : (i 0 : Nat) < 64 := (i 0).isLt
    have b1 : (i 1 : Nat) < 1000 := (i 1).isLt
    have b2 : (i 2 : Nat) < 128 := (i 2).isLt
    refine ⟨⟨(i 0 : Nat) / 8, by rw [show cfg0.N = 8 from N_0]; omega⟩, flush0_4 _, ?_⟩
    generalize ht : (⟨(i 0 : Nat) / 8, _⟩ : Fin cfg0.N) = t
    have hv : t.val = (i 0 : Nat) / 8 := by rw [← ht]
    obtain ⟨_, _, _, _, h0, h1, h2⟩ := index_batch t
    show i ∈ ((View.whole main_v4).slice (win0_4.rect t)).set
    rw [View.set_slice_whole, Rect.mem_set_unit]
    intro a
    match a with
    | ⟨0, _⟩ => show win0_4.index t 0 * 8 ≤ (i 0 : Nat) ∧ (i 0 : Nat) < win0_4.index t 0 * 8 + 8; rw [h0]; omega
    | ⟨1, _⟩ => show win0_4.index t 1 * 1000 ≤ (i 1 : Nat) ∧ (i 1 : Nat) < win0_4.index t 1 * 1000 + 1000
                rw [h1]; omega
    | ⟨2, _⟩ => show win0_4.index t 2 * 128 ≤ (i 2 : Nat) ∧ (i 2 : Nat) < win0_4.index t 2 * 128 + 128
                rw [h2]; omega

end Cert.Proof

end
-- ==== Proof.RefValue.lean ====
/- The reference read at an index: where both biases are zero, the gain one and the shift zero, it is `layer`. -/
module

public import proofs.«01_k».proof.Proof.Arith
public import proofs.«01_k».proof.Proof.Gen.ReferenceIdeal.Read

@[expose] public section

set_option maxRecDepth 16384

noncomputable section

namespace Cert.Proof

open Idealize.ShloMosaic Idealize.ShloMosaic.ValueIdx Cert.ReferenceIdeal Cert.ReferenceIdeal.Gen Cert.ReferenceIdeal.Read
open Cert.ReferenceIdeal.Facts

variable (h : FVec Ideal ⟨3, ![64, 1000, 128]⟩ .f32) (mk : IVec ⟨3, ![64, 1000, 1000]⟩ 1)
  (w1 : FVec Ideal ⟨2, ![128, 512]⟩ .f32) (b1 : FVec Ideal ⟨1, ![512]⟩ .f32)
  (w2 : FVec Ideal ⟨2, ![512, 128]⟩ .f32) (b2 gain shift : FVec Ideal ⟨1, ![128]⟩ .f32)

/-- The dequantised feature: its code in units of the step. -/
theorem ref_feature (i : S64x1000x128.Idx) : val_main_v5 (F := Ideal) h i = code (h i) * stepSize := by
  rw [val_main_v5_apply, val_main_v4_apply, val_main_v3_apply, val_main_call1_v4_apply, val_main_call1_v2_apply,
    val_main_call1_v1_apply, val_main_v2_apply, val_main_v1_apply, val_main_v0_apply]
  rfl

/-- The masked mean. -/
theorem ref_mean (b : Fin 64) (r : Fin 1000) (d : Fin 128) :
    val_main_v12 (F := Ideal) h mk (ix3 b r d) = meanOf (fun j => mk (ix3 b r j)) (fun j => h (ix3 b j d)) := by
  rw [val_main_v12_apply, val_main_v10_apply, val_main_v11_apply, val_main_v9_apply, val_main_v8_apply,
    val_main_v7_apply, val_main_call2_v1_apply]
  have e1 : ∀ k, lidx_main_v10 (ix3 b r d) k = ix3 b r k := fun k => by
    funext a; match a with | ⟨0, _⟩ => rfl | ⟨1, _⟩ => rfl | ⟨2, _⟩ => rfl
  have e2 : ∀ k, ridx_main_v10 (ix3 b r d) k = ix3 b k d := fun k => by
    funext a; match a with | ⟨0, _⟩ => rfl | ⟨1, _⟩ => rfl | ⟨2, _⟩ => rfl
  have e3 : ∀ k, idx_main_v7 (idx_main_v8 (idx_main_v11 (ix3 b r d))) k = ix3 b r k := fun k => by
    funext a; match a with | ⟨0, _⟩ => rfl | ⟨1, _⟩ => rfl | ⟨2, _⟩ => rfl
  simp only [e1, e2, e3, ref_feature]
  rfl

/-- The hidden layer, where the first bias is zero. -/
theorem ref_hidden (hb1 : ∀ i, b1 i = 0) (b : Fin 64) (r : Fin 1000) (k : Fin 512) :
    val_main_v17 (F := Ideal) h mk w1 b1 (ix3 b r k)
      = max (∑ e : Fin 128, meanOf (fun j => mk (ix3 b r j)) (fun j => h (ix3 b j e)) * w1 (ix2 e k)) 0 := by
  rw [val_main_v17_apply, val_main_v16_apply, val_main_v15_apply, val_main_v14_apply, val_main_call3_v0_apply,
    val_main_v13_apply, hb1]
  have e1 : ∀ e, lidx_main_v13 (ix3 b r k) e = ix3 b r e := fun e => by
    funext a; match a with | ⟨0, _⟩ => rfl | ⟨1, _⟩ => rfl | ⟨2, _⟩ => rfl
  have e2 : ∀ e, ridx_main_v13 (ix3 b r k) e = ix2 e k := fun e => by
    funext a; match a with | ⟨0, _⟩ => rfl | ⟨1, _⟩ => rfl
  simp only [e1, e2, ref_mean]
  show max (_ + 0) (Ideal.ofBits .f32 0x00000000#32) = _
  rw [add_zero, word_0]

/-- The row before normalisation, where both biases are zero. -/
theorem ref_row (hb1 : ∀ i, b1 i = 0) (hb2 : ∀ i, b2 i = 0) (b : Fin 64) (r : Fin 1000) (d : Fin 128) :
    val_main_v22 (F := Ideal) h mk w1 b1 w2 b2 (ix3 b r d) = nodeRow h mk w1 w2 b r d := by
  rw [val_main_v22_apply, val_main_v21_apply, val_main_v20_apply, val_main_v19_apply, val_main_v18_apply, hb2]
  have e1 : ∀ k, lidx_main_v18 (ix3 b r d) k = ix3 b r k := fun k => by
    funext a; match a with | ⟨0, _⟩ => rfl | ⟨1, _⟩ => rfl | ⟨2, _⟩ => rfl
  have e2 : ∀ k, ridx_main_v18 (ix3 b r d) k = ix2 k d := fun k => by
    funext a; match a with | ⟨0, _⟩ => rfl | ⟨1, _⟩ => rfl
  simp only [e1, e2, ref_hidden h mk w1 b1 hb1]
  show h (ix3 b r d) + (_ + 0) = _
  rw [add_zero]
  rfl

/-- The row's mean. -/
theorem ref_rowMean (hb1 : ∀ i, b1 i = 0) (hb2 : ∀ i, b2 i = 0) (b : Fin 64) (r : Fin 1000) (u : Fin 1) :
    val_main_v26 (F := Ideal) h mk w1 b1 w2 b2 (ix3 b r u) = rowMean (nodeRow h mk w1 w2 b r) := by
  rw [val_main_v26_apply, val_main_v25_apply, val_main_v24_apply, val_main_v23_apply]
  have e1 : ∀ k, idx_main_v23 (idx_main_v24 (ix3 b r u)) k = ix3 b r k := fun k => by
    funext a; match a with | ⟨0, _⟩ => rfl | ⟨1, _⟩ => rfl | ⟨2, _⟩ => rfl
  simp only [e1, ref_row h mk w1 b1 w2 b2 hb1 hb2]
  show Ideal.div (Ideal.ofBits .f32 0x00000000#32 + _) (Ideal.ofBits .f32 0x43000000#32) = _
  rw [word_0, zero_add]
  rfl

/-- The same mean inside the variance. -/
theorem ref_rowMean' (hb1 : ∀ i, b1 i = 0) (hb2 : ∀ i, b2 i = 0) (b : Fin 64) (r : Fin 1000) (d : Fin 128) :
    val_main_call4_v4 (F := Ideal) h mk w1 b1 w2 b2 (ix3 b r d) = rowMean (nodeRow h mk w1 w2 b r) := by
  rw [val_main_call4_v4_apply, val_main_call4_v3_apply, val_main_call4_v2_apply, val_main_call4_v1_apply,
    val_main_call4_v0_apply]
  have e1 : ∀ k, idx_main_call4_v0 (idx_main_call4_v1 (idx_main_call4_v4 (ix3 b r d))) k = ix3 b r k := fun k => by
    funext a; match a with | ⟨0, _⟩ => rfl | ⟨1, _⟩ => rfl | ⟨2, _⟩ => rfl
  simp only [e1, ref_row h mk w1 b1 w2 b2 hb1 hb2]
  show Ideal.div (Ideal.ofBits .f32 0x00000000#32 + _) (Ideal.ofBits .f32 0x43000000#32) = _
  rw [word_0, zero_add]
  rfl

/-- The variance's divisor: 128 less no degrees of freedom. -/
theorem ref_divisor (i : S_.Idx) : val_main_call4_v8 (F := Ideal) i = Ideal.ofBits .f32 0x43000000#32 := by
  rw [val_main_call4_v8_apply, val_main_call4_v7_apply]
  show Ideal.ofBits .f32 0x43000000#32 - (((0#32).toInt : ℝ) : EReal) = _
  rw [show (0#32).toInt = 0 from by decide, Int.cast_zero, EReal.coe_zero, sub_zero]

/-- The divisor is above zero, so the variance's guard always chooses the quotient. -/
theorem ref_guard (i : S_.Idx) : val_main_call4_v13 (F := Ideal) i = 1#1 := by
  rw [val_main_call4_v13_apply, ref_divisor]
  show BitVec.ofBool (decide (Ideal.ofBits .f32 0x43000000#32 > Ideal.ofBits .f32 0x00000000#32)) = _
  rw [word_0, word_128, decide_eq_true (by exact_mod_cast (by norm_num : (0 : ℝ) < 128))]
  rfl

/-- The row's variance. -/
theorem ref_rowVar (hb1 : ∀ i, b1 i = 0) (hb2 : ∀ i, b2 i = 0) (b : Fin 64) (r : Fin 1000) (u : Fin 1) :
    val_main_v27 (F := Ideal) h mk w1 b1 w2 b2 (ix3 b r u) = rowVar (nodeRow h mk w1 w2 b r) := by
  unfold val_main_v27
  rw [select_apply]
  have eg : broadcastInDim S64x1000x1 ![] bcast_S_S64x1000x1 (val_main_call4_v13 (F := Ideal)) (ix3 b r u) = 1#1 :=
    ref_guard _
  rw [eg]
  show val_main_call4_v12 (F := Ideal) h mk w1 b1 w2 b2 (ix3 b r u) = _
  rw [val_main_call4_v12_apply, val_main_call4_v11_apply, val_main_call4_v10_apply, val_main_call4_v9_apply,
    ref_divisor]
  have e1 : ∀ k, idx_main_call4_v9 (idx_main_call4_v10 (ix3 b r u)) k = ix3 b r k := fun k => by
    funext a; match a with | ⟨0, _⟩ => rfl | ⟨1, _⟩ => rfl | ⟨2, _⟩ => rfl
  simp only [e1, val_main_call4_v6_apply, val_main_call4_v5_apply, ref_row h mk w1 b1 w2 b2 hb1 hb2,
    ref_rowMean' h mk w1 b1 w2 b2 hb1 hb2]
  show Ideal.div (Ideal.ofBits .f32 0x00000000#32 + _) (Ideal.ofBits .f32 0x43000000#32) = _
  rw [word_0, zero_add]
  rfl

/-- The reference's result, where the biases and the shift are zero and the gain is one, is the layer. -/
theorem ref_layer (hb1 : ∀ i, b1 i = 0) (hb2 : ∀ i, b2 i = 0) (hgain : ∀ i, gain i = 1) (hshift : ∀ i, shift i = 0) :
    val_main_v40 (F := Ideal) h mk w1 b1 w2 b2 gain shift = layer h mk w1 w2 := by
  funext i
  obtain ⟨b, r, d, rfl⟩ : ∃ (b : Fin 64) (r : Fin 1000) (d : Fin 128), i = ix3 b r d := ⟨i 0, i 1, i 2, eq_ix3 i⟩
  rw [val_main_v40_apply, val_main_v39_apply, val_main_v38_apply, val_main_v37_apply, val_main_v36_apply,
    val_main_v35_apply, val_main_v34_apply, val_main_v33_apply, val_main_v32_apply, val_main_v31_apply,
    val_main_v30_apply, val_main_v29_apply, val_main_v28_apply, hgain, hshift]
  have e1 : idx_main_v33 (ix3 b r d) = ix3 b r (0 : Fin 1) := by
    funext a; match a with | ⟨0, _⟩ => rfl | ⟨1, _⟩ => rfl | ⟨2, _⟩ => rfl
  have e2 : idx_main_v28 (ix3 b r d) = ix3 b r (0 : Fin 1) := by
    funext a; match a with | ⟨0, _⟩ => rfl | ⟨1, _⟩ => rfl | ⟨2, _⟩ => rfl
  rw [e1, e2, ref_row h mk w1 b1 w2 b2 hb1 hb2, ref_rowMean h mk w1 b1 w2 b2 hb1 hb2,
    ref_rowVar h mk w1 b1 w2 b2 hb1 hb2]
  show Ideal.div (nodeRow h mk w1 w2 b r d - rowMean (nodeRow h mk w1 w2 b r))
    (Ideal.sqrt (rowVar (nodeRow h mk w1 w2 b r) + small)) * 1 + 0 = _
  rw [mul_one, add_zero, rowNorm_eq_div]
  rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The precondition's own side conditions. -/
instance preFacts : Cert.Pre_neutral_affine.Facts where
  bcast_S_S512 := by decide
  bcast_S_S128 := by decide

/-- An equality test that answers one says the two are equal. -/
theorem eq_of_test {x y : EReal} (h : Ideal.cmp .oeq x y = 1#1) : x = y := by
  have h' : BitVec.ofBool (decide (x = y)) = 1#1 := h
  by_contra hne
  rw [decide_eq_false hne] at h'
  exact absurd h' (by decide)

/-- The printed kernel runs, leaves its arguments as they were and every counter at zero. -/
theorem frame_kernel : Cert.quiescent_Kernel := fun m g _ => Cert.Kernel.Gen.frame m g

/-- The idealized kernel runs, leaves its arguments as they were and every counter at zero. -/
theorem frame_kernelIdeal : Cert.quiescent_KernelIdeal := fun m g _ => Cert.KernelIdeal.Gen.frame m g

/-- The same under the precondition. -/
theorem frame_kernelIdeal_pre : Cert.quiescent_KernelIdeal_pre_neutral_affine :=
  fun m g _ => Cert.KernelIdeal.Gen.frame m g

/-- The reference runs, leaves its arguments as they were and every counter at zero: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The same under the precondition. -/
theorem frame_reference_pre : Cert.quiescent_ReferenceIdeal_pre_neutral_affine := fun m g _ => frame_reference m g trivial

/-- The kernel and the reference end with the same result, where the biases and the shift are zero and the gain is
    one. -/
theorem equal_results : Cert.algebraic_KernelIdeal_ReferenceIdeal_pre_neutral_affine := by
  intro m g m' g' hpre hargs
  refine ⟨fun c => result m c, ?_, ?_⟩
  · exact (θ_run Cert.KernelIdeal.defs _ _).mono
      (fun _ h c => ⟨(h c).1.trans (array_layer m c), (h c).2⟩) (Cert.KernelIdeal.Value.run_blocks m g)
  · refine (θ_run Cert.ReferenceIdeal.defs _ _).mono
      (fun _ h c => ⟨(h c).1.trans ?_, (h c).2⟩) (Cert.ReferenceIdeal.Value.run m' g')
    obtain ⟨p1, p2, p3, p4⟩ := hpre c
    obtain ⟨a0, a1, a2, a3, a4, a5, a6, a7⟩ := hargs c
    rw [Cert.ReferenceIdeal.Read.val_main_v40_eq, a0, a1, a2, a3, a4, a5, a6, a7]
    exact ref_layer _ _ _ _ _ _ _ _
      (fun i => (eq_of_test (congrFun p1 i)).trans word_0) (fun i => (eq_of_test (congrFun p2 i)).trans word_0)
      (fun i => (eq_of_test (congrFun p3 i)).trans (word_1.trans EReal.coe_one))
      (fun i => (eq_of_test (congrFun p4 i)).trans word_0)

theorem claim : Cert.Claim :=
  ⟨Cert.Kernel.Gen.facts, Cert.KernelIdeal.Gen.facts, Cert.ReferenceIdeal.Gen.facts, preFacts,
    frame_kernel, frame_kernelIdeal, frame_kernelIdeal_pre, frame_reference, frame_reference_pre, trivial,
    equal_results⟩

end Cert.Proof

end
